-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S16384x2048 : Shape := ⟨2, ![16384, 2048]⟩
abbrev S16384x16 : Shape := ⟨2, ![16384, 16]⟩
abbrev S2064x128 : Shape := ⟨2, ![2064, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S2064x128 : S_.BroadcastsInDim S2064x128 (![] : Fin 0 → Fin S2064x128.rank)
  reducesTo_S2064x128_S_d0_1 : S2064x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x2048 .f32) (main_arg1 : FVec F S16384x16 .f32) (main_arg2 : FVec F S2064x128 .f32) (main_arg3 : FVec F S128 .f32) (main_arg4 : FVec F S128x64 .f32) (main_arg5 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_v9 : FVec F S2064x128 .f32 := Host.absf main_arg2
  let main_cst_2 : FVec F S_ .f32 := constant S_ .f32 0x7F800000#32
  let main_v10 : FVec F S2064x128 .f32 := broadcastInDim S2064x128 ![] bcast_S_S2064x128 main_cst_2
  let main_v11 : IVec S2064x128 1 := cmpf .olt main_v9 main_v10
  let main_c_3 : IVec S_ 1 := constantI S_ 1 1#1
  let main_v12 : IVec S_ 1 := (fun x v => Host.reduce IntOp.andi x v reducesTo_S2064x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16384x2048 : Shape := ⟨2, ![16384, 2048]⟩
abbrev S16384x16 : Shape := ⟨2, ![16384, 16]⟩
abbrev S2064x128 : Shape := ⟨2, ![2064, 128]⟩
abbrev S128 : Shape := ⟨1, ![128]⟩
abbrev S128x64 : Shape := ⟨2, ![128, 64]⟩
abbrev S64 : Shape := ⟨1, ![64]⟩
abbrev S2048x128 : Shape := ⟨2, ![2048, 128]⟩
abbrev S16x128 : Shape := ⟨2, ![16, 128]⟩
abbrev S1x128 : Shape := ⟨2, ![1, 128]⟩
abbrev S1x64 : Shape := ⟨2, ![1, 64]⟩
abbrev S16384x2 : Shape := ⟨2, ![16384, 2]⟩
abbrev S2048x2048 : Shape := ⟨2, ![2048, 2048]⟩
abbrev S2048x16 : Shape := ⟨2, ![2048, 16]⟩
abbrev S2048x2 : Shape := ⟨2, ![2048, 2]⟩
abbrev S2048x64 : Shape := ⟨2, ![2048, 64]⟩
abbrev S2048 : Shape := ⟨1, ![2048]⟩
abbrev S2048x1 : Shape := ⟨2, ![2048, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16384x16, .f32⟩
  | .hbm, ⟨2, _⟩ => ⟨S2064x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2048x128, .f32⟩
  | .hbm, ⟨7, _⟩ => ⟨S16x128, .f32⟩
  | .hbm, ⟨8, _⟩ => ⟨S1x128, .f32⟩
  | .hbm, ⟨9, _⟩ => ⟨S1x64, .f32⟩
  | .hbm, ⟨10, _⟩ => ⟨S16384x2, .f32⟩
  | .hbm, ⟨11, _⟩ => ⟨S16384x2, .i32⟩
  | .local _ .vmem, ⟨0, _⟩ => ⟨S2048x2048, .f32⟩
  | .local _ .vmem, ⟨1, _⟩ => ⟨S2048x2048, .f32⟩
  | .local _ .vmem, ⟨2, _⟩ => ⟨S2048x16, .f32⟩
  | .local _ .vmem, ⟨3, _⟩ => ⟨S2048x16, .f32⟩
  | .local _ .vmem, ⟨4, _⟩ => ⟨S2048x128, .f32⟩
  | .local _ .vmem, ⟨5, _⟩ => ⟨S16x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S2048x2, .f32⟩
  | .local _ .vmem, ⟨10, _⟩ => ⟨S2048x2, .f32⟩
  | .local _ .vmem, ⟨11, _⟩ => ⟨S2048x2, .i32⟩
  | .local _ .vmem, ⟨12, _⟩ => ⟨S2048x2, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x2 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x2048 : Shape := ⟨2, ![16384, 2048]⟩
abbrev S16384x16 : Shape := ⟨2, ![16384, 16]⟩
abbrev S2064x128 : Shape := ⟨2, ![2064, 128]⟩
abbrev S128 : Shape := ⟨1, ![128]⟩
abbrev S128x64 : Shape := ⟨2, ![128, 64]⟩
abbrev S64 : Shape := ⟨1, ![64]⟩
abbrev S16384x2064 : Shape := ⟨2, ![16384, 2064]⟩
abbrev S16384x128 : Shape := ⟨2, ![16384, 128]⟩
abbrev S1x128 : Shape := ⟨2, ![1, 128]⟩
abbrev S_ : Shape := ⟨0, ![]⟩
abbrev S16384x64 : Shape := ⟨2, ![16384, 64]⟩
abbrev S1x64 : Shape := ⟨2, ![1, 64]⟩
abbrev S16384x2 : Shape := ⟨2, ![16384, 2]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x16, .f32⟩
  | .hbm, ⟨2, _⟩ => ⟨S2064x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S16384x2064, .f32⟩
  | .hbm, ⟨7, _⟩ => ⟨S16384x128, .f32⟩
  | .hbm, ⟨8, _⟩ => ⟨S1x128, .f32⟩
  | .hbm, ⟨9, _⟩ => ⟨S16384x128, .f32⟩
  | .hbm, ⟨10, _⟩ => ⟨S16384x128, .f32⟩
  | .hbm, ⟨11, _⟩ => ⟨S_, .f32⟩
  | .hbm, ⟨12, _⟩ => ⟨S16384x128, .f32⟩
  | .hbm, ⟨13, _⟩ => ⟨S16384x128, .f32⟩
  | .hbm, ⟨14, _⟩ => ⟨S16384x128, .f32⟩
  | .hbm, ⟨15, _⟩ => ⟨S_, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S16384x2, .f32⟩
  | .hbm, ⟨25, _⟩ => ⟨S16384x2, .i32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x2, .f32⟩
  | .hbm, ⟨33, _⟩ => ⟨S16384x2, .f32⟩
  | .hbm, ⟨34, _⟩ => ⟨S16384x2, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x2, .f32⟩
  | .hbm, ⟨39, _⟩ => ⟨S16384x2, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_values : Ref sig .tc := ⟨.hbm, 24, rfl⟩
abbrev main_indices : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.TopTwo.lean ====
/-
  The two greatest entries of a row, and their positions, in two ways. A stable sort by "the greater entry first" puts
  at places 0 and 1 the first position of the greatest entry and the first position of the greatest of the others
  (`sortedFrom_two`). The maximum of the row, the least position at which it stands, the row with
  that position masked by −∞, and again maximum and least position, give the same two positions (`fold_max_row`,
  `firstWord_row`, `fold_max_masked`, `firstWord_masked`).
-/
module

public import Idealize.ShloMosaic.Lib.SortPrefix
public import Idealize.ShloMosaic.Lib.SortFacts
public import Idealize.ShloMosaic.Lib.Pointwise

@[expose] public section

noncomputable section

namespace Cert.RouterRow

open Idealize.ShloMosaic

/-- `i` is the first position of the greatest entry of `L`. -/
def FirstMax {n : Nat} (L : Fin n → EReal) (i : Fin n) : Prop := (∀ k, L k ≤ L i) ∧ ∀ k, k < i → L k < L i

/-- `j` is the first position of the greatest entry of `L` among the positions other than `i`. -/
def FirstOther {n : Nat} (L : Fin n → EReal) (i j : Fin n) : Prop :=
  j ≠ i ∧ (∀ k, k ≠ i → L k ≤ L j) ∧ ∀ k, k < j → k ≠ i → L k < L j

/-- Among the positions with a property that some position has, there is a first one with the greatest entry. -/
theorem exists_first {n : Nat} (L : Fin n → EReal) (p : Fin n → Prop) (h : ∃ k, p k) :
    ∃ i, p i ∧ (∀ k, p k → L k ≤ L i) ∧ ∀ k, k < i → p k → L k < L i := by
  classical
  obtain ⟨k₀, hk₀⟩ := h
  obtain ⟨a, ha, hmax⟩ := Finset.exists_max_image (Finset.univ.filter p) L ⟨k₀, by simpa using hk₀⟩
  simp only [Finset.mem_filter, Finset.mem_univ, true_and] at ha hmax
  obtain ⟨i, hi, hmin⟩ := Finset.exists_min_image (Finset.univ.filter fun k => p k ∧ L k = L a) id ⟨a, by simpa using ha⟩
  simp only [Finset.mem_filter, Finset.mem_univ, true_and, id] at hi hmin
  refine ⟨i, hi.1, fun k hk => hi.2 ▸ hmax k hk, fun k hki hk => ?_⟩
  refine lt_of_le_of_ne (hi.2 ▸ hmax k hk) fun e => ?_
  exact absurd (hmin k ⟨hk, e.trans hi.2⟩) (not_le.mpr hki)

/-- A row with an entry has a first position of its greatest entry. -/
theorem exists_firstMax {n : Nat} (L : Fin n → EReal) (hn : 0 < n) : ∃ i, FirstMax L i := by
  obtain ⟨i, -, h1, h2⟩ := exists_first L (fun _ => True) ⟨⟨0, hn⟩, trivial⟩
  exact ⟨i, fun k => h1 k trivial, fun k hk => h2 k hk trivial⟩

/-- A row with two entries has a first position of the greatest entry outside a given position. -/
theorem exists_firstOther {n : Nat} (L : Fin n → EReal) (hn : 1 < n) (i : Fin n) : ∃ j, FirstOther L i j := by
  have hex : ∃ k : Fin n, k ≠ i := by
    by_cases h : i = ⟨0, by omega⟩
    · exact ⟨⟨1, hn⟩, fun e => by rw [h] at e; simp [Fin.ext_iff] at e⟩
    · exact ⟨⟨0, by omega⟩, fun e => h e.symm⟩
  exact exists_first L (fun k => k ≠ i) hex

/-! ## The stable sort -/

/-- "The greater entry sorts first." -/
def before {n : Nat} (L : Fin n → EReal) (a b : Fin n) : Bool := decide (L b < L a)

/-- "The greater entry sorts first; of equal entries, the one at the lesser position." -/
def beforeTie {n : Nat} (L : Fin n → EReal) (a b : Fin n) : Bool :=
  decide (L b < L a) || (decide (L a = L b) && decide (a < b))

/-- A stable sort of an ascending list of positions keeps the order of equal entries. -/
theorem stableSort_before {n : Nat} (L : Fin n → EReal) (l : List (Fin n)) (hl : l.Pairwise (· < ·)) :
    stableSort (before L) l = stableSort (beforeTie L) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, beforeTie, not_lt.mpr hab.le]

/-- The sort by the entries alone is the sort by the entries and then the positions. -/
theorem sortedFrom_before {n : Nat} (L : Fin n → EReal) : sortedFrom (before L) = sortedFrom (beforeTie L) := by
  have h : sortPositions n (before L) = sortPositions n (beforeTie L) :=
    stableSort_before L _ (List.pairwise_lt_finRange n)
  funext k
  unfold sortedFrom
  rw [List.get_of_eq h]
  rfl

/-- The order by entries and then positions is a strict total order on the positions. -/
theorem strictTotal_beforeTie {n : Nat} (L : Fin n → EReal) : StrictTotalBefore (beforeTie L) :=
  StrictTotalBefore.of_key_then_position (fun a b : EReal => decide (b < a)) L (fun a => by simp)
    (fun a b c h1 h2 => by
      simp only [decide_eq_true_eq] at h1 h2 ⊢
      exact h2.trans h1)
    (fun a b => by
      simp only [decide_eq_true_eq]
      rcases lt_trichotomy a b with h | h | h
      · exact Or.inr (Or.inr h)
      · exact Or.inr (Or.inl h)
      · exact Or.inl h)

/-- A position whose entry is no greater, and less where the position is earlier, does not sort before `i`. -/
theorem beforeTie_eq_false {n : Nat} (L : Fin n → EReal) (p i : Fin n) (h1 : L p ≤ L i) (h2 : p < i → L p < L i) :
    beforeTie L p i = false := by
  simp only [beforeTie, Bool.or_eq_false_iff, decide_eq_false_iff_not, not_lt, Bool.and_eq_false_iff]
  refine ⟨h1, ?_⟩
  by_cases hp : p < i
  · exact Or.inl (h2 hp).ne
  · exact Or.inr (not_lt.mp hp)

/-- The sort's first two places come from the first position of the greatest entry and the first position of the
    greatest other entry. -/
theorem sortedFrom_two {n : Nat} (L : Fin n → EReal) (hn : 2 ≤ n) (i j : Fin n) (hi : FirstMax L i)
    (hj : FirstOther L i j) (q : Fin 2) : sortedFrom (before L) (q.castLE hn) = ![i, j] q := by
  rw [sortedFrom_before]
  refine (strictTotal_beforeTie L).sortedFrom_eq_of_prefix hn ![i, j] ?_ ?_ ?_ q
  · intro a b hab
    fin_cases a <;> fin_cases b <;> simp at hab ⊢
    · exact hj.1 hab.symm
    · exact hj.1 hab
  · intro a b hab
    fin_cases a <;> fin_cases b <;> simp at hab ⊢
    exact beforeTie_eq_false L j i (hi.1 j) (hi.2 j)
  · intro a p hp
    have hpi : p ≠ i := fun e => hp 0 e.symm
    fin_cases a
    · exact beforeTie_eq_false L p i (hi.1 p) (hi.2 p)
    · exact beforeTie_eq_false L p j (hj.2.1 p hpi) fun h => hj.2.2 p h hpi

/-! ## Maximum and least position -/

/-- The least of the position words at which `L` is `m`, 64 standing for "nowhere". -/
def firstWord (L : Fin 64 → EReal) (m : EReal) : BitVec 32 :=
  Finset.univ.fold IntOp.minsi 2147483647#32 fun x : Fin 64 => if L x = m then BitVec.ofNat 32 x.val else 64#32

/-- `L` with the entry at position `i` replaced by −∞. -/
def masked (L : Fin 64 → EReal) (i : Fin 64) : Fin 64 → EReal := fun x => if x = i then ⊥ else L x

/-- The signed minimum of two words is the word of the lesser number. -/
theorem toInt_minsi (a b : BitVec 32) : (IntOp.minsi a b).toInt = min a.toInt b.toInt := by
  unfold IntOp.minsi
  simp only [BitVec.slt]
  split
  · rename_i h
    simp at h
    omega
  · rename_i h
    simp at h
    omega

/-- The word of a position below 64 is that number. -/
theorem toInt_ofNat (x : Nat) (h : x ≤ 64) : (BitVec.ofNat 32 x).toInt = (x : ℤ) := by
  rw [BitVec.toInt_eq_toNat_of_lt (by simp only [BitVec.toNat_ofNat]; omega), BitVec.toNat_ofNat]
  omega

/-- The maximum of a row's entries from −∞ is the entry at a position that no entry exceeds. -/
theorem fold_max_eq {n : Nat} (L : Fin n → EReal) (i : Fin n) (hi : ∀ k, L k ≤ L i) :
    Finset.univ.fold max ⊥ L = L i := by
  refine le_antisymm ?_ ?_
  · rw [Finset.fold_max_le]
    exact ⟨bot_le, fun k _ => hi k⟩
  · rw [Finset.le_fold_max]
    exact Or.inr ⟨i, Finset.mem_univ i, le_rfl⟩

/-- The least position word at which `L` is `m` is that of `i`, where `L` is `m` at `i` and at no earlier position. -/
theorem firstWord_eq (L : Fin 64 → EReal) (m : EReal) (i : Fin 64) (hi : L i = m) (hlt : ∀ k, k < i → L k ≠ m) :
    firstWord L m = BitVec.ofNat 32 i.val := by
  apply BitVec.eq_of_toInt_eq
  unfold firstWord
  rw [← Finset.fold_hom (op' := (min : ℤ → ℤ → ℤ)) toInt_minsi, toInt_ofNat i.val (by omega)]
  refine le_antisymm ?_ ?_
  · rw [Finset.fold_min_le]
    refine Or.inr ⟨i, Finset.mem_univ i, ?_⟩
    rw [if_pos hi, toInt_ofNat i.val (by omega)]
  · rw [Finset.le_fold_min]
    refine ⟨by have := i.isLt; simp; omega, fun k _ => ?_⟩
    by_cases hk : L k = m
    · rw [if_pos hk, toInt_ofNat k.val (by omega)]
      have : ¬ k < i := fun h => hlt k h hk
      have := Fin.not_lt.mp this
      exact_mod_cast this
    · rw [if_neg hk]
      have := i.isLt
      simp

/-- The maximum of the row is its entry at the first position of the greatest entry. -/
theorem fold_max_row (L : Fin 64 → EReal) (i : Fin 64) (hi : FirstMax L i) : Finset.univ.fold max ⊥ L = L i :=
  fold_max_eq L i hi.1

/-- The least position word of the row's maximum is that of the first position of the greatest entry. -/
theorem firstWord_row (L : Fin 64 → EReal) (i : Fin 64) (hi : FirstMax L i) :
    firstWord L (L i) = BitVec.ofNat 32 i.val :=
  firstWord_eq L _ i rfl fun k hk => (hi.2 k hk).ne

/-- The maximum of the masked row is the greatest other entry. -/
theorem fold_max_masked (L : Fin 64 → EReal) (i j : Fin 64) (hj : FirstOther L i j) :
    Finset.univ.fold max ⊥ (masked L i) = L j := by
  have h : masked L i j = L j := if_neg hj.1
  rw [← h]
  refine fold_max_eq _ j fun k => ?_
  rw [h]
  unfold masked
  split
  · exact bot_le
  · rename_i hk
    exact hj.2.1 k hk

/-- The least position word of the masked row's maximum is that of the first position of the greatest other entry,
    where that entry is not −∞. -/
theorem firstWord_masked (L : Fin 64 → EReal) (i j : Fin 64) (hj : FirstOther L i j) (hb : L j ≠ ⊥) :
    firstWord (masked L i) (L j) = BitVec.ofNat 32 j.val := by
  refine firstWord_eq _ _ j (if_neg hj.1) fun k hk => ?_
  unfold masked
  split
  · exact fun e => hb e.symm
  · rename_i hki
    exact (hj.2.2 k hk hki).ne

/-- Masking by comparing position words is masking at the position. -/
theorem select_word (L : Fin 64 → EReal) (i x : Fin 64) :
    Scalar.select (IntOp.cmpi .eq (BitVec.ofNat 32 x.val) (BitVec.ofNat 32 i.val)) ⊥ (L x) = masked L i x := by
  have hw : BitVec.ofNat 32 x.val = BitVec.ofNat 32 i.val ↔ x = i := by
    constructor
    · intro h
      have := congrArg BitVec.toNat h
      simp only [BitVec.toNat_ofNat] at this
      exact Fin.ext (by omega)
    · rintro rfl
      rfl
  unfold masked
  by_cases h : x = i
  · subst h
    simp [Scalar.select, IntOp.cmpi]
  · have hb : (BitVec.ofNat 32 x.val == BitVec.ofNat 32 i.val) = false := by
      rw [beq_eq_false_iff_ne]
      exact fun e => h (hw.mp e)
    simp [Scalar.select, IntOp.cmpi, h, hb]

end Cert.RouterRow
-- ==== Proof.RowSpec.lean ====
/-
  One row of the router, as plain functions of extended reals: its 64 logits (`rowLogit`), the pair of softmax weights
  of the two chosen logits (`rowWeight`), and that all of these are real numbers where the data are.
-/
module

public import Idealize.ShloMosaic.Lib.Pointwise

@[expose] public section

noncomputable section

namespace Cert.RouterRow

open Idealize.ShloMosaic

/-- The hidden unit `k` before its activation: the row `x` against the first 2048 rows of `W1`, the row `g` against its
    last 16, and the bias. -/
def rowPre (x : Fin 2048 → EReal) (g : Fin 16 → EReal) (W1 : Fin 2064 → Fin 128 → EReal) (b1 : Fin 128 → EReal)
    (k : Fin 128) : EReal :=
  (∑ a : Fin 2048, x a * W1 ⟨a.val, by omega⟩ k) + (∑ a : Fin 16, g a * W1 ⟨2048 + a.val, by omega⟩ k) + b1 k

/-- The exact GELU by the error function, its two constants as the programs have them. -/
def gelu (p : EReal) : EReal :=
  Ideal.ofBits .f32 0x3F000000#32 * p * (1 + Ideal.erf (p * Ideal.ofBits .f32 0x3F3504F3#32))

/-- The logit of expert `e` for one row. -/
def rowLogit (x : Fin 2048 → EReal) (g : Fin 16 → EReal) (W1 : Fin 2064 → Fin 128 → EReal) (b1 : Fin 128 → EReal)
    (W2 : Fin 128 → Fin 64 → EReal) (b2 : Fin 64 → EReal) (e : Fin 64) : EReal :=
  (∑ k : Fin 128, gelu (rowPre x g W1 b1 k) * W2 k e) + b2 e

/-- The softmax of the pair `a`, `b` with `a` the greater: `1 / (1 + exp (b - a))` and `exp (b - a) / (1 + exp (b - a))`. -/
def rowWeight (a b : EReal) : Fin 2 → EReal :=
  ![Ideal.div 1 (1 + Ideal.exp (b - a)), Ideal.div (Ideal.exp (b - a)) (1 + Ideal.exp (b - a))]

/-! ## Real numbers -/

/-- `x` is a real number: neither infinity. -/
def IsReal (x : EReal) : Prop := ∃ r : ℝ, x = (r : EReal)

/-- A sum of two reals is real. -/
theorem IsReal.add {x y : EReal} (hx : IsReal x) (hy : IsReal y) : IsReal (x + y) := by
  obtain ⟨a, rfl⟩ := hx
  obtain ⟨b, rfl⟩ := hy
  exact ⟨a + b, by norm_cast⟩

/-- A product of two reals is real. -/
theorem IsReal.mul {x y : EReal} (hx : IsReal x) (hy : IsReal y) : IsReal (x * y) := by
  obtain ⟨a, rfl⟩ := hx
  obtain ⟨b, rfl⟩ := hy
  exact ⟨a * b, by norm_cast⟩

/-- One is real. -/
theorem IsReal.one : IsReal 1 := ⟨1, by norm_cast⟩

/-- Zero is real. -/
theorem IsReal.zero : IsReal 0 := ⟨0, by norm_cast⟩

/-- A finite sum of reals is real. -/
theorem IsReal.sum {ι : Type*} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

/-- The error function is real everywhere. -/
theorem IsReal.erf (x : EReal) : IsReal (Ideal.erf x) := by
  induction x using EReal.rec with
  | bot => exact ⟨-1, show (-1 : EReal) = ((-1 : ℝ) : EReal) by simp⟩
  | top => exact ⟨1, show (1 : EReal) = ((1 : ℝ) : EReal) by simp⟩
  | coe r => exact ⟨_, rfl⟩

/-- The constant 1/2 is real. -/
theorem IsReal.half : IsReal (Ideal.ofBits .f32 0x3F000000#32) := by
  simp only [Ideal.ofBits, Ideal.ieee]
  exact ⟨_, rfl⟩

/-- The constant nearest to 1/√2 is real. -/
theorem IsReal.invSqrtTwo : IsReal (Ideal.ofBits .f32 0x3F3504F3#32) := by
  simp only [Ideal.ofBits, Ideal.ieee]
  exact ⟨_, rfl⟩

/-- A real is not −∞. -/
theorem IsReal.ne_bot {x : EReal} (h : IsReal x) : x ≠ ⊥ := by
  obtain ⟨r, rfl⟩ := h
  exact EReal.coe_ne_bot r

/-- A real less itself is zero. -/
theorem IsReal.sub_self {x : EReal} (h : IsReal x) : x - x = 0 := by
  obtain ⟨r, rfl⟩ := h
  norm_cast
  simp

/-- An extended real that is neither infinity is real. -/
theorem IsReal.of_ne {x : EReal} (h1 : x ≠ ⊤) (h2 : x ≠ ⊥) : IsReal x := ⟨x.toReal, (EReal.coe_toReal h1 h2).symm⟩

/-- The gelu of a real is real. -/
theorem IsReal.gelu {p : EReal} (h : IsReal p) : IsReal (gelu p) :=
  (IsReal.half.mul h).mul (IsReal.one.add (IsReal.erf _))

/-- The logits of a row are real where the row and the parameters are. -/
theorem IsReal.rowLogit {x : Fin 2048 → EReal} {g : Fin 16 → EReal} {W1 : Fin 2064 → Fin 128 → EReal}
    {b1 : Fin 128 → EReal} {W2 : Fin 128 → Fin 64 → EReal} {b2 : Fin 64 → EReal} (hx : ∀ a, IsReal (x a))
    (hg : ∀ a, IsReal (g a)) (hW1 : ∀ a k, IsReal (W1 a k)) (hb1 : ∀ k, IsReal (b1 k))
    (hW2 : ∀ k e, IsReal (W2 k e)) (hb2 : ∀ e, IsReal (b2 e)) (e : Fin 64) :
    IsReal (rowLogit x g W1 b1 W2 b2 e) :=
  (IsReal.sum _ _ fun k => (IsReal.gelu (((IsReal.sum _ _ fun a => (hx a).mul (hW1 _ k)).add
    (IsReal.sum _ _ fun a => (hg a).mul (hW1 _ k))).add (hb1 k))).mul (hW2 k e)).add (hb2 e)

/-- The activation as the host writes it, by the complementary error function of the negated argument. -/
theorem gelu_erfc (p : EReal) :
    Ideal.ofBits .f32 0x3F000000#32 * p * Ideal.erfc (-p * Ideal.ofBits .f32 0x3F3504F3#32) = gelu p := by
  unfold gelu
  rw [neg_mul, Ideal.erfc_neg]

/-- The pattern of −∞ denotes −∞. -/
theorem ofBits_negInf : Ideal.ofBits .f32 0xFF800000#32 = ⊥ := by simp [Ideal.ofBits, Ideal.ieee]

/-- The pattern of +∞ denotes +∞. -/
theorem ofBits_posInf : Ideal.ofBits .f32 0x7F800000#32 = ⊤ := by simp [Ideal.ofBits, Ideal.ieee]

/-- The host's softmax over the pair: subtract the maximum, exponentiate, divide by the sum. -/
theorem softmax_pair (v : Fin 2 → EReal) (a b : EReal) (ha : IsReal a) (hba : b ≤ a) (h0 : v 0 = a) (h1 : v 1 = b)
    (q : Fin 2) :
    Ideal.div (Ideal.exp (v q - max ⊥ (Finset.univ.fold max ⊥ v)))
      (∑ x : Fin 2, Ideal.exp (v x - max ⊥ (Finset.univ.fold max ⊥ v))) = rowWeight a b q := by
  have hm : max ⊥ (Finset.univ.fold max ⊥ v) = a := by
    rw [max_eq_right bot_le]
    refine le_antisymm ?_ ?_
    · rw [Finset.fold_max_le]
      refine ⟨bot_le, fun k _ => ?_⟩
      fin_cases k
      · exact h0.le
      · exact h1.le.trans hba
    · rw [Finset.le_fold_max]
      exact Or.inr ⟨0, Finset.mem_univ _, h0.ge⟩
  have he : Ideal.exp (a - a) = 1 := by
    rw [ha.sub_self]
    show ((Real.exp 0 : ℝ) : EReal) = 1
    rw [Real.exp_zero]
    rfl
  rw [hm, Fin.sum_univ_two, h0, h1, he]
  unfold rowWeight
  fin_cases q
  · show Ideal.div (Ideal.exp (v 0 - a)) _ = _
    rw [h0, he]
    rfl
  · show Ideal.div (Ideal.exp (v 1 - a)) _ = _
    rw [h1]
    rfl

end Cert.RouterRow
-- ==== Proof.KernelRows.lean ====
/-
  What the kernel's body stores, read at one row of its block: the pair of weights and the pair of positions of the
  row's two greatest logits.
-/
module

public import proofs.«01_k».proof.Proof.Gen.KernelIdeal.Value
public import proofs.«01_k».proof.Proof.TopTwo
public import proofs.«01_k».proof.Proof.RowSpec
public import Idealize.ShloMosaic.Lib.Pipeline.ValueKit
public import Idealize.ShloMosaic.Lib.Pointwise

@[expose] public section

set_option maxRecDepth 16384

noncomputable section

namespace Cert.KernelIdeal.RouterValue

open Cert.KernelIdeal Cert.KernelIdeal.Gen Cert.RouterRow Idealize.ShloMosaic Idealize.ShloMosaic.TcCoe Idealize.SL.Sem

variable (x : Vec Ideal S2048x2048 .f32) (w : Vec Ideal S2048x128 .f32) (g : Vec Ideal S2048x16 .f32)
  (u : Vec Ideal S16x128 .f32) (b : Vec Ideal S1x128 .f32) (w2 : Vec Ideal S128x64 .f32) (b2 : Vec Ideal S1x64 .f32)

/-- The body's logits at a row and an expert are the row's logits, the first layer's parameters taken from one array
    `W1` of which `w` and `u` are the first 2048 and the last 16 rows. -/
theorem logits_at (W1 : Fin 2064 → Fin 128 → EReal) (hw : ∀ (a : Fin 2048) k, w (ix2 a k) = W1 ⟨a.val, by omega⟩ k)
    (hu : ∀ (a : Fin 16) k, u (ix2 a k) = W1 ⟨2048 + a.val, by omega⟩ k) (r : Fin 2048) (e : Fin 64) :
    k0_pay5 (F := Ideal) x w g u b w2 b2 (ix2 r e)
      = rowLogit (fun a => x (ix2 r a)) (fun a => g (ix2 r a)) W1 (fun k => b (ix2 0 k)) (fun k e => w2 (ix2 k e))
          (fun e => b2 (ix2 0 e)) e := by
  pointwise [k0_pay5]
  simp only [hw, hu]
  rfl

/-- The row's logits as the body computes them. -/
def bodyRow (r : Fin 2048) : Fin 64 → EReal := fun e => k0_pay5 (F := Ideal) x w g u b w2 b2 (ix2 r e)

/-- The body's maximum of a row is the greatest logit. -/
theorem max_at (r : Fin 2048) (i : Fin 64) (hi : FirstMax (bodyRow x w g u b w2 b2 r) i) (z : Fin 1) :
    k0_pay6 (F := Ideal) x w g u b w2 b2 (ix2 r z) = bodyRow x w g u b w2 b2 r i := by
  pointwise [k0_pay6]
  rw [ofBits_negInf]
  exact fold_max_row (bodyRow x w g u b w2 b2 r) i hi

/-- The body's first position word of a row is the first position of the greatest logit. -/
theorem first_at (r : Fin 2048) (i : Fin 64) (hi : FirstMax (bodyRow x w g u b w2 b2 r) i) (z : Fin 1) :
    k0_pay7 (F := Ideal) x w g u b w2 b2 (ix2 r z) = BitVec.ofNat 32 i.val := by
  pointwise [k0_pay7, k0_pay6]
  rw [ofBits_negInf, show Finset.univ.fold max ⊥ (fun e => k0_pay5 (F := Ideal) x w g u b w2 b2 (ix2 r e)) = _ from
    fold_max_row (bodyRow x w g u b w2 b2 r) i hi]
  exact firstWord_row (bodyRow x w g u b w2 b2 r) i hi

variable (L : FVec Ideal S2048x64 .f32) (n : IVec S2048x64 32) (v : FVec Ideal S2048x1 .f32) (p : IVec S2048x1 32)

/-- The stored weights of a row, for a row whose greatest logit stands first at `i` and whose greatest other logit
    stands first at `j`. -/
theorem weights_at (r : Fin 2048) (i j : Fin 64) (hn : ∀ e, n (ix2 r e) = BitVec.ofNat 32 e.val)
    (hv : ∀ z, v (ix2 r z) = L (ix2 r i)) (hp : ∀ z, p (ix2 r z) = BitVec.ofNat 32 i.val)
    (hj : FirstOther (fun e => L (ix2 r e)) i j) (q : Fin 2) :
    k0_pay3 L n v p (ix2 r q) = rowWeight (L (ix2 r i)) (L (ix2 r j)) q := by
  have hmax : Finset.univ.fold max ⊥ (fun e : Fin 64 => Scalar.select
      (IntOp.cmpi .eq (BitVec.ofNat 32 e.val) (BitVec.ofNat 32 i.val)) ⊥ (L (ix2 r e))) = L (ix2 r j) := by
    rw [← fold_max_masked (fun e => L (ix2 r e)) i j hj]
    congr 1
    funext e
    exact select_word (fun e => L (ix2 r e)) i e
  pointwise [k0_pay3, k0_pay2, k0_pay1]
  simp only [hn, hv, hp, ofBits_negInf]
  rw [hmax]
  fin_cases q <;> rfl

/-- The stored positions of such a row, where its greatest other logit is not −∞. -/
theorem places_at (r : Fin 2048) (i j : Fin 64) (hn : ∀ e, n (ix2 r e) = BitVec.ofNat 32 e.val)
    (hp : ∀ z, p (ix2 r z) = BitVec.ofNat 32 i.val)
    (hj : FirstOther (fun e => L (ix2 r e)) i j) (hb : L (ix2 r j) ≠ ⊥) (q : Fin 2) :
    k0_pay4 (F := Ideal) L n p (ix2 r q) = ![BitVec.ofNat 32 i.val, BitVec.ofNat 32 j.val] q := by
  have hm : (fun e : Fin 64 => Scalar.select
      (IntOp.cmpi .eq (BitVec.ofNat 32 e.val) (BitVec.ofNat 32 i.val)) ⊥ (L (ix2 r e)))
      = masked (fun e => L (ix2 r e)) i := funext fun e => select_word (fun e => L (ix2 r e)) i e
  have hmax := fold_max_masked (fun e => L (ix2 r e)) i j hj
  have hword := firstWord_masked (fun e => L (ix2 r e)) i j hj hb
  pointwise [k0_pay4, k0_pay2, k0_pay1]
  simp only [hn, hp, ofBits_negInf]
  rw [hm, hmax]
  fin_cases q
  · rfl
  · refine Eq.trans ?_ hword
    unfold firstWord
    simp only [← hm]
    rfl

end Cert.KernelIdeal.RouterValue
-- ==== Proof.RefRows.lean ====
/-
  What the reference returns, read at one row: the pair of weights and the pair of positions of the row's two greatest
  logits.
-/
module

public import proofs.«01_k».proof.Proof.Gen.ReferenceIdeal.Run
public import proofs.«01_k».proof.Proof.TopTwo
public import proofs.«01_k».proof.Proof.RowSpec
public import Idealize.ShloMosaic.Lib.Pointwise

@[expose] public section

set_option maxRecDepth 16384

noncomputable section

namespace Cert.ReferenceIdeal.RouterRef

open Cert.ReferenceIdeal Cert.ReferenceIdeal.Gen Cert.RouterRow Idealize.ShloMosaic Idealize.ShloMosaic.TcCoe Idealize.SL.Sem

/-- The hidden layer before its activation. -/
def hidden (x : FVec Ideal S16384x2048 .f32) (g : FVec Ideal S16384x16 .f32) (W1 : FVec Ideal S2064x128 .f32)
    (b1 : FVec Ideal S128 .f32) : FVec Ideal S16384x128 .f32 :=
  addf (Host.dotGeneral dot_S16384x2064_S2064x128_S16384x128_1_0_0_1_n_n none
      (concatenate S16384x2064 1 [⟨S16384x2048, x⟩, ⟨S16384x16, g⟩] concatenates_S16384x2048_S16384x16_S16384x2064_d1) W1)
    (broadcastInDim S16384x128 ![0, 1] bcast_S1x128_S16384x128_0_1 (broadcastInDim S1x128 ![1] bcast_S128_S1x128_1 b1))

/-- The logits of all rows, from the hidden layer `p` before its activation. -/
def logitsOf (p : FVec Ideal S16384x128 .f32) (W2 : FVec Ideal S128x64 .f32) (b2 : FVec Ideal S64 .f32) :
    FVec Ideal S16384x64 .f32 :=
  addf (Host.dotGeneral dot_S16384x128_S128x64_S16384x64_1_0_0_1_n_n none
      (mulf (mulf (broadcastInDim S16384x128 ![] bcast_S_S16384x128 (constant S_ .f32 0x3F000000#32)) p)
        (Host.erfc (mulf (Host.negf p) (broadcastInDim S16384x128 ![] bcast_S_S16384x128 (constant S_ .f32 0x3F3504F3#32)))))
      W2)
    (broadcastInDim S16384x64 ![0, 1] bcast_S1x64_S16384x64_0_1 (broadcastInDim S1x64 ![1] bcast_S64_S1x64_1 b2))

/-- The logits of all rows. -/
def logits (x : FVec Ideal S16384x2048 .f32) (g : FVec Ideal S16384x16 .f32) (W1 : FVec Ideal S2064x128 .f32)
    (b1 : FVec Ideal S128 .f32) (W2 : FVec Ideal S128x64 .f32) (b2 : FVec Ideal S64 .f32) : FVec Ideal S16384x64 .f32 :=
  logitsOf (hidden x g W1 b1) W2 b2

/-- The two greatest logits of every row. -/
def topVals (L : FVec Ideal S16384x64 .f32) : FVec Ideal S16384x2 .f32 :=
  (Host.topK S16384x2 1 (FloatOps.cmpfTotal .gt) L sliceFits_S16384x64_S16384x2).1

/-- Their positions. -/
def topIdx (L : FVec Ideal S16384x64 .f32) : IVec S16384x2 32 :=
  (Host.topK S16384x2 1 (FloatOps.cmpfTotal .gt) L sliceFits_S16384x64_S16384x2).2

/-- The exponentials of the pairs less their maximum. -/
def expVals (v : FVec Ideal S16384x2 .f32) : FVec Ideal S16384x2 .f32 :=
  Host.exp (subf v (broadcastInDim S16384x2 ![0, 1] bcast_S16384x1_S16384x2_0_1
    (broadcastInDim S16384x1 ![0] bcast_S16384_S16384x1_0
      (maximumf (broadcastInDim S16384 ![] bcast_S_S16384 (constant S_ .f32 0xFF800000#32))
        (Host.reduce FloatOps.maximumf v (constant S_ .f32 0xFF800000#32) reducesTo_S16384x2_S16384_d1 h_S_)))))

/-- The softmax of every pair. -/
def weights (v : FVec Ideal S16384x2 .f32) : FVec Ideal S16384x2 .f32 :=
  Host.divf (expVals v) (broadcastInDim S16384x2 ![0, 1] bcast_S16384x1_S16384x2_0_1
    (broadcastInDim S16384x1 ![0] bcast_S16384_S16384x1_0
      (Host.reduceAdd (expVals v) (constant S_ .f32 0x00000000#32) reducesTo_S16384x2_S16384_d1 h_S_)))

/-- The reference's logits at a row and an expert are the row's logits. -/
theorem logits_at (x : FVec Ideal S16384x2048 .f32) (g : FVec Ideal S16384x16 .f32) (W1 : FVec Ideal S2064x128 .f32)
    (b1 : FVec Ideal S128 .f32) (W2 : FVec Ideal S128x64 .f32) (b2 : FVec Ideal S64 .f32) (n : Fin 16384) (e : Fin 64) :
    logits x g W1 b1 W2 b2 (ix2 n e)
      = rowLogit (fun a => x (ix2 n a)) (fun a => g (ix2 n a)) (fun a k => W1 (ix2 a k)) (fun k => b1 (ix1 k))
          (fun k e => W2 (ix2 k e)) (fun e => b2 (ix1 e)) e := by
  have hpre : ∀ k, hidden x g W1 b1 (ix2 n k)
      = rowPre (fun a => x (ix2 n a)) (fun a => g (ix2 n a)) (fun a k => W1 (ix2 a k)) (fun k => b1 (ix1 k)) k := by
    intro k
    pointwise [hidden]
    rfl
  unfold logits
  pointwise [logitsOf]
  simp only [hpre]
  simp only [gelu_erfc]
  rfl

/-- Position `k` along the experts of the row through `ix2 n q`. -/
theorem along_at (n : Fin 16384) (q k : Fin 64) : (ix2 n q : S16384x64.Idx).along 1 k = ix2 n k := by
  funext a
  fin_cases a
  · rfl
  · rfl

/-- Its coordinate along the experts is `k`. -/
theorem along_one (n : Fin 16384) (q k : Fin 64) : (ix2 n q : S16384x64.Idx).along 1 k 1 = k := by
  rw [along_at]
  rfl

/-- The comparison "greater" of two extended reals, asked as a Boolean. -/
theorem gt_beq (a b : EReal) :
    (FloatOps.cmpfTotal (F := Ideal) (φ := .f32) .gt a b == 1#1) = decide (b < a) := by
  show (BitVec.ofBool (decide (b < a)) == 1#1) = decide (b < a)
  cases decide (b < a) <;> rfl

/-- The sort's comparison along the experts of row `n` is "the greater logit first". -/
theorem compare_at (L : FVec Ideal S16384x64 .f32) (n : Fin 16384) (q : Fin 64) :
    (fun k k' : Fin 64 => FloatOps.cmpfTotal (F := Ideal) (φ := .f32) .gt (L ((ix2 n q : S16384x64.Idx).along 1 k))
      (L ((ix2 n q : S16384x64.Idx).along 1 k')) == 1#1) = before fun e => L (ix2 n e) := by
  funext k k'
  rw [along_at, along_at, gt_beq]
  rfl

/-- The values of the top two at a row: the logits at the first position of the greatest and at the first position of
    the greatest other one. -/
theorem topVals_at (L : FVec Ideal S16384x64 .f32) (n : Fin 16384) (i j : Fin 64)
    (hi : FirstMax (fun e => L (ix2 n e)) i) (hj : FirstOther (fun e => L (ix2 n e)) i j) (q : Fin 2) :
    topVals L (ix2 n q) = L (ix2 n (![i, j] q)) := by
  rw [← sortedFrom_two (fun e => L (ix2 n e)) (by decide) i j hi hj q, show q.castLE (by decide) = (⟨q.val, by omega⟩ : Fin 64) from rfl, ← compare_at L n ⟨q.val, by omega⟩,
    ← along_at n ⟨q.val, by omega⟩]
  unfold topVals Host.topK
  pointwise [Host.sort2]

/-- Their positions, as words. -/
theorem topIdx_at (L : FVec Ideal S16384x64 .f32) (n : Fin 16384) (i j : Fin 64)
    (hi : FirstMax (fun e => L (ix2 n e)) i) (hj : FirstOther (fun e => L (ix2 n e)) i j) (q : Fin 2) :
    topIdx L (ix2 n q) = ![BitVec.ofNat 32 i.val, BitVec.ofNat 32 j.val] q := by
  have h : BitVec.ofNat 32 (sortedFrom (before fun e => L (ix2 n e)) ⟨q.val, by omega⟩).val
      = ![BitVec.ofNat 32 i.val, BitVec.ofNat 32 j.val] q := by
    rw [show (⟨q.val, by omega⟩ : Fin 64) = q.castLE (by decide) from rfl,
      sortedFrom_two (fun e => L (ix2 n e)) (by decide) i j hi hj q]
    fin_cases q <;> rfl
  rw [← h, ← compare_at L n ⟨q.val, by omega⟩]
  unfold topIdx Host.topK
  pointwise [Host.sort2]
  exact congrArg (fun s : Fin 64 => BitVec.ofNat 32 s.val) (along_one n _ _)

/-- The reference's weights of such a row, where its greatest logit is real. -/
theorem weights_at (L : FVec Ideal S16384x64 .f32) (n : Fin 16384) (i j : Fin 64)
    (hi : FirstMax (fun e => L (ix2 n e)) i) (hj : FirstOther (fun e => L (ix2 n e)) i j) (hr : IsReal (L (ix2 n i)))
    (q : Fin 2) : weights (topVals L) (ix2 n q) = rowWeight (L (ix2 n i)) (L (ix2 n j)) q := by
  have hv := topVals_at L n i j hi hj
  generalize topVals L = v at hv ⊢
  have h := softmax_pair (fun q => v (ix2 n q)) _ _ hr (hi.1 j) (hv 0) (hv 1) q
  pointwise [weights, expVals]
  simp only [ofBits_negInf]
  exact h

variable (m : (ℓ : Loc nD τ sig) → Buf (Elt Ideal) ℓ) (c : Dev nD)

/-- The logits of the launch's arguments on device `c`. -/
def argLogits : FVec Ideal S16384x64 .f32 :=
  logits (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- From any memory with zero counters, every weakly fair execution of the reference ends with the weights and the
    positions of its arguments' logits in the result arrays and the arguments unchanged. -/
theorem run_rows (ρ : Dev nD → PrngReg) :
    θ_run defs (onTc (τ := τ) (main (F := Ideal))) ⟨m, fun _ => 0, ρ⟩ fun r => ∀ c : Dev nD,
      r.2.mem ((c.tc : Thread nD τ).loc main_v26) = weights (topVals (argLogits m c))
      ∧ r.2.mem ((c.tc : Thread nD τ).loc main_indices) = topIdx (argLogits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Value.run m ρ

end Cert.ReferenceIdeal.RouterRef
-- ==== Proof.Blocks.lean ====
/-
  The blocks of the kernel's input arrays that a grid point reads, in terms of the launch's arguments.
-/
module

public import proofs.«01_k».proof.Proof.KernelRows
public import proofs.«01_k».proof.Proof.RefRows

@[expose] public section

set_option maxRecDepth 16384

noncomputable section

namespace Cert.KernelIdeal.RouterValue

open Cert.KernelIdeal Cert.KernelIdeal.Gen Cert.RouterRow Idealize.ShloMosaic Idealize.ShloMosaic.TcCoe Idealize.SL.Sem

variable (m : (ℓ : Loc nD τ sig) → Buf (Elt Ideal) ℓ) (c : Dev nD)

/-- The arguments of the launch on device `c`. -/
abbrev argX : FVec Ideal S16384x2048 .f32 := m ((c : Thread nD τ).loc main_arg0)
abbrev argG : FVec Ideal S16384x16 .f32 := m ((c : Thread nD τ).loc main_arg1)
abbrev argW1 : FVec Ideal S2064x128 .f32 := m ((c : Thread nD τ).loc main_arg2)
abbrev argB1 : FVec Ideal S128 .f32 := m ((c : Thread nD τ).loc main_arg3)
abbrev argW2 : FVec Ideal S128x64 .f32 := m ((c : Thread nD τ).loc main_arg4)
abbrev argB2 : FVec Ideal S64 .f32 := m ((c : Thread nD τ).loc main_arg5)

/-- The block indices: the token windows move with the point, the parameter windows stay. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The row of the whole array at which row `r` of point `t`'s block lies. -/
def rowOf (t : Fin cfg0.N) (r : Fin 2048) : Fin 16384 :=
  ⟨t.val * 2048 + r.val, by have h : t.val < 8 := t.isLt; omega⟩

theorem block0 (t : Fin cfg0.N) (r : Fin 2048) (a : Fin 2048) :
    (iblk m c 0 t : Vec Ideal S2048x2048 .f32) (ix2 r a) = argX m c (ix2 (rowOf t r) a) := by
  unfold rowOf
  blk_ext [iblk, V, idx0 t]

theorem block1 (t : Fin cfg0.N) (r : Fin 2048) (a : Fin 16) :
    (iblk m c 1 t : Vec Ideal S2048x16 .f32) (ix2 r a) = argG m c (ix2 (rowOf t r) a) := by
  unfold rowOf
  blk_ext [iblk, V, idx1 t]

theorem block5 (t : Fin cfg0.N) (k : Fin 128) (e : Fin 64) :
    (iblk m c 5 t : Vec Ideal S128x64 .f32) (ix2 k e) = argW2 m c (ix2 k e) := by
  blk_ext [iblk, V, idx5 t]

/-- The region finds the first 2048 rows of the first layer's matrix in one operand and its last 16 in the next. -/
theorem entry_w : (V m c main_call0_v0 : Vec Ideal S2048x128 .f32)
    = extractStridedSlice S2048x128 ![0, 0] (argW1 m c) slices_S2064x128_S2048x128_0_0 := by
  entry_read
  rfl
theorem entry_u : (V m c main_call0_v1 : Vec Ideal S16x128 .f32)
    = extractStridedSlice S16x128 ![2048, 0] (argW1 m c) slices_S2064x128_S16x128_2048_0 := by
  entry_read
  rfl

theorem block2 (t : Fin cfg0.N) (a : Fin 2048) (k : Fin 128) :
    (iblk m c 2 t : Vec Ideal S2048x128 .f32) (ix2 a k) = argW1 m c (ix2 ⟨a.val, by omega⟩ k) := by
  have h : (iblk m c 2 t : Vec Ideal S2048x128 .f32) (ix2 a k) = (V m c main_call0_v0 : Vec Ideal S2048x128 .f32) (ix2 a k) := by
    blk_ext [iblk, idx2 t]
  rw [h, entry_w]
  pointwise

theorem block3 (t : Fin cfg0.N) (a : Fin 16) (k : Fin 128) :
    (iblk m c 3 t : Vec Ideal S16x128 .f32) (ix2 a k) = argW1 m c (ix2 ⟨2048 + a.val, by omega⟩ k) := by
  have h : (iblk m c 3 t : Vec Ideal S16x128 .f32) (ix2 a k) = (V m c main_call0_v1 : Vec Ideal S16x128 .f32) (ix2 a k) := by
    blk_ext [iblk, idx3 t]
  rw [h, entry_u]
  pointwise

theorem block4 (t : Fin cfg0.N) (k : Fin 128) :
    (iblk m c 4 t : Vec Ideal S1x128 .f32) (ix2 0 k) = argB1 m c (ix1 k) := by
  blk_simp [iblk]
  entry_read
  pointwise
  blk_ext [idx4 t]

theorem block6 (t : Fin cfg0.N) (e : Fin 64) :
    (iblk m c 6 t : Vec Ideal S1x64 .f32) (ix2 0 e) = argB2 m c (ix1 e) := by
  blk_simp [iblk]
  entry_read
  pointwise
  blk_ext [idx6 t]

/-- The logits of the launch's arguments on device `c`. -/
def argLogits : FVec Ideal Cert.ReferenceIdeal.S16384x64 .f32 :=
  Cert.ReferenceIdeal.RouterRef.logits (argX m c) (argG m c) (argW1 m c) (argB1 m c) (argW2 m c) (argB2 m c)

/-- The row's logits that the body computes at point `t` are those of the whole arrays. -/
theorem bodyRow_eq (t : Fin cfg0.N) (r : Fin 2048) :
    bodyRow (iblk m c 0 t) (iblk m c 2 t) (iblk m c 1 t) (iblk m c 3 t) (iblk m c 4 t) (iblk m c 5 t) (iblk m c 6 t) r
      = fun e => argLogits m c (ix2 (rowOf t r) e) := by
  funext e
  unfold bodyRow argLogits
  rw [Cert.ReferenceIdeal.RouterRef.logits_at]
  refine (logits_at _ _ _ _ _ _ _ (fun a k => argW1 m c (ix2 a k)) (fun a k => block2 m c t a k)
    (fun a k => block3 m c t a k) r e).trans ?_
  simp only [block0, block1, block4, block5, block6]

/-- Every argument of the launch on device `c` is real throughout. -/
structure RealArgs : Prop where
  x : ∀ n a, IsReal (argX m c (ix2 n a))
  g : ∀ n a, IsReal (argG m c (ix2 n a))
  w1 : ∀ a k, IsReal (argW1 m c (ix2 a k))
  b1 : ∀ k, IsReal (argB1 m c (ix1 k))
  w2 : ∀ k e, IsReal (argW2 m c (ix2 k e))
  b2 : ∀ e, IsReal (argB2 m c (ix1 e))

/-- Then every logit is real. -/
theorem RealArgs.logit (h : RealArgs m c) (n : Fin 16384) (e : Fin 64) : IsReal (argLogits m c (ix2 n e)) := by
  unfold argLogits
  rw [Cert.ReferenceIdeal.RouterRef.logits_at]
  exact IsReal.rowLogit (fun a => h.x n a) (fun a => h.g n a) (fun a k => h.w1 a k) (fun k => h.b1 k)
    (fun k e => h.w2 k e) (fun e => h.b2 e) e

/-- The stored weights at row `r` of point `t`'s block are those of the reference at that row of the whole array. -/
theorem weights_block (h : RealArgs m c) (t : Fin cfg0.N) (r : Fin 2048) (q : Fin 2) :
    k0_pay3 (F := Ideal)
      (k0_pay5 (iblk m c 0 t) (iblk m c 2 t) (iblk m c 1 t) (iblk m c 3 t) (iblk m c 4 t) (iblk m c 5 t) (iblk m c 6 t))
      (iota .tc S2048x64 32 [1] iota_S2048x64_d1_w32)
      (k0_pay6 (iblk m c 0 t) (iblk m c 2 t) (iblk m c 1 t) (iblk m c 3 t) (iblk m c 4 t) (iblk m c 5 t) (iblk m c 6 t))
      (k0_pay7 (iblk m c 0 t) (iblk m c 2 t) (iblk m c 1 t) (iblk m c 3 t) (iblk m c 4 t) (iblk m c 5 t) (iblk m c 6 t))
      (ix2 r q)
    = Cert.ReferenceIdeal.RouterRef.weights (Cert.ReferenceIdeal.RouterRef.topVals (argLogits m c)) (ix2 (rowOf t r) q) := by
  obtain ⟨i, hi⟩ := exists_firstMax (fun e => argLogits m c (ix2 (rowOf t r) e)) (by decide)
  obtain ⟨j, hj⟩ := exists_firstOther (fun e => argLogits m c (ix2 (rowOf t r) e)) (by decide) i
  rw [Cert.ReferenceIdeal.RouterRef.weights_at _ _ i j hi hj (h.logit m c _ _)]
  have hrow := bodyRow_eq m c t r
  have hi' := hi
  have hj' := hj
  rw [← hrow] at hi' hj'
  refine (weights_at _ _ _ _ r i j (fun e => ?_) (fun z => max_at _ _ _ _ _ _ _ r i hi' z)
    (fun z => first_at _ _ _ _ _ _ _ r i hi' z) hj' q).trans ?_
  · pointwise
  · exact congrArg₂ (fun a b => rowWeight a b q) (congrFun hrow i) (congrFun hrow j)

/-- The stored positions at row `r` of point `t`'s block are those of the reference at that row of the whole array. -/
theorem places_block (h : RealArgs m c) (t : Fin cfg0.N) (r : Fin 2048) (q : Fin 2) :
    k0_pay4 (F := Ideal)
      (k0_pay5 (iblk m c 0 t) (iblk m c 2 t) (iblk m c 1 t) (iblk m c 3 t) (iblk m c 4 t) (iblk m c 5 t) (iblk m c 6 t))
      (iota .tc S2048x64 32 [1] iota_S2048x64_d1_w32)
      (k0_pay7 (iblk m c 0 t) (iblk m c 2 t) (iblk m c 1 t) (iblk m c 3 t) (iblk m c 4 t) (iblk m c 5 t) (iblk m c 6 t))
      (ix2 r q)
    = Cert.ReferenceIdeal.RouterRef.topIdx (argLogits m c) (ix2 (rowOf t r) q) := by
  obtain ⟨i, hi⟩ := exists_firstMax (fun e => argLogits m c (ix2 (rowOf t r) e)) (by decide)
  obtain ⟨j, hj⟩ := exists_firstOther (fun e => argLogits m c (ix2 (rowOf t r) e)) (by decide) i
  rw [Cert.ReferenceIdeal.RouterRef.topIdx_at _ _ i j hi hj]
  have hrow := bodyRow_eq m c t r
  have hi' := hi
  have hj' := hj
  rw [← hrow] at hi' hj'
  refine places_at _ _ _ r i j (fun e => ?_) (fun z => first_at _ _ _ _ _ _ _ r i hi' z) hj' ?_ q
  · pointwise
  · intro hb
    exact (h.logit m c (rowOf t r) j).ne_bot ((congrFun hrow j).symm.trans hb)

/-- The kernel's array of weights after the run is the softmax of the top two logits of every row. -/
theorem weights_eq (h : RealArgs m c) : (dats m 0 c).arrAt 7 cfg0.N
    = Cert.ReferenceIdeal.RouterRef.weights (Cert.ReferenceIdeal.RouterRef.topVals (argLogits m c)) := by
  refine (dats m 0 c).arrAt_eq_of_covers 7 _ (by decide +kernel) fun t hf y => ?_
  blk_simp
  rw [after0_7]
  unfold_out out0_7
  frame_out
  obtain ⟨r, q, rfl⟩ : ∃ (r : Fin 2048) (q : Fin 2), y = ix2 r q := ⟨y 0, y 1, eq_ix2 y⟩
  refine (weights_block m c h t r q).trans (congrArg _ ?_)
  unfold rowOf
  blk_ext [idx7 t]

/-- The kernel's array of positions after the run holds those of the top two logits of every row. -/
theorem places_eq (h : RealArgs m c) : (dats m 0 c).arrAt 8 cfg0.N
    = Cert.ReferenceIdeal.RouterRef.topIdx (argLogits m c) := by
  refine (dats m 0 c).arrAt_eq_of_covers 8 _ (by decide +kernel) fun t hf y => ?_
  blk_simp
  rw [after0_8]
  unfold_out out0_8
  frame_out
  obtain ⟨r, q, rfl⟩ : ∃ (r : Fin 2048) (q : Fin 2), y = ix2 r q := ⟨y 0, y 1, eq_ix2 y⟩
  refine (places_block m c h t r q).trans (congrArg _ ?_)
  unfold rowOf
  blk_ext [idx8 t]

end Cert.KernelIdeal.RouterValue
-- ==== Proof.Finite.lean ====
/-
  The precondition, read back: every entry of every argument is a real number.
-/
module

public import proofs.«01_k».proof.Defs
public import proofs.«01_k».proof.Proof.Gen.Pre_finite_args
public import proofs.«01_k».proof.Proof.RowSpec
public import Idealize.ShloMosaic.Lib.ReduceAll

@[expose] public section

set_option maxRecDepth 16384

noncomputable section

namespace Cert.RouterPre

open Cert.Pre_finite_args Cert.RouterRow Idealize.ShloMosaic

variable [Cert.Pre_finite_args.Facts]
open Facts

/-- An extended real whose absolute value compares below +∞ is real. -/
theorem isReal_of_cmp (x : Ideal .f32)
    (h : FloatOps.cmpf .olt (FloatOps.hostAbsf x) (FloatOps.ofBits .f32 0x7F800000#32 : Ideal .f32) = 1#1) : IsReal x := by
  have h' : BitVec.ofBool (decide (max (x : EReal) (-x) < Ideal.ofBits .f32 0x7F800000#32)) = 1#1 := h
  rw [ofBits_posInf] at h'
  have hlt : max (x : EReal) (-x) < ⊤ := by
    by_contra hn
    rw [decide_eq_false hn] at h'
    exact absurd h' (by decide)
  rw [max_lt_iff] at hlt
  refine IsReal.of_ne hlt.1.ne fun e => ?_
  rw [e] at hlt
  exact absurd hlt.2 (by simp)

/-- A conjunction word that is 1 has both its parts 1. -/
theorem and_parts {a b : IVec S_ 1} {i : S_.Idx} (h : andi a b i = 1#1) : a i = 1#1 ∧ b i = 1#1 := IntOp.andi_eq_one.1 h

/-- An array of which every absolute value compares below +∞ is real throughout. -/
theorem real_all {s : Shape} {axes : List (Fin s.rank)} (x : FVec Ideal s .f32) (hb : S_.BroadcastsInDim s (![] : Fin 0 → Fin s.rank))
    (hr : s.ReducesTo axes S_) (j : S_.Idx)
    (h : Host.reduce IntOp.andi (cmpf .olt (Host.absf x) (broadcastInDim s ![] hb (constant S_ .f32 0x7F800000#32)))
      (constantI S_ 1 1#1) hr h_S_ j = 1#1) (i : s.Idx) : IsReal (x i) := by
  have := Host.reduce_andi_all _ _ hr h_S_ j h i
  exact isReal_of_cmp _ this

/-- The precondition at all ones makes every argument real throughout. -/
theorem real_args (x : FVec Ideal S16384x2048 .f32) (g : FVec Ideal S16384x16 .f32) (w1 : FVec Ideal S2064x128 .f32)
    (b1 : FVec Ideal S128 .f32) (w2 : FVec Ideal S128x64 .f32) (b2 : FVec Ideal S64 .f32)
    (h : fn (F := Ideal) x g w1 b1 w2 b2 = fun _ => 1#1) :
    (∀ i, IsReal (x i)) ∧ (∀ i, IsReal (g i)) ∧ (∀ i, IsReal (w1 i)) ∧ (∀ i, IsReal (b1 i)) ∧ (∀ i, IsReal (w2 i))
      ∧ ∀ i, IsReal (b2 i) := by
  have h0 := congrFun h ix0
  dsimp only [fn, fn_part1] at h0
  obtain ⟨h0, h6⟩ := and_parts h0
  obtain ⟨h0, h5⟩ := and_parts h0
  obtain ⟨h0, h4⟩ := and_parts h0
  obtain ⟨h0, h3⟩ := and_parts h0
  obtain ⟨h1, h2⟩ := and_parts h0
  exact ⟨real_all x _ _ _ h1, real_all g _ _ _ h2, real_all w1 _ _ _ h3, real_all b1 _ _ _ h4, real_all w2 _ _ _ h5,
    real_all b2 _ _ _ h6⟩

end Cert.RouterPre
-- ==== Proof.lean ====
/-
  The proof of `Cert.Claim`. The frames of the kernel come from its generated launch; the reference's from its run.
  The kernel's two results are, block by block, the weights and positions of the reference's logits
  (`weights_eq`, `places_eq`, Proof/Blocks.lean), where every argument is real (`real_args`, Proof/Finite.lean); the
  reference's run ends with the same (`run_rows`, Proof/RefRows.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_args
public import proofs.«01_k».proof.Proof.Blocks
public import proofs.«01_k».proof.Proof.Finite
public import Idealize.ShloMosaic.Adequacy
public import Idealize.ShloMosaic.Init

@[expose] public section

noncomputable section

namespace Cert.Proof

open Idealize.ShloMosaic Idealize.SL.Sem

section Reference

open Cert.ReferenceIdeal

/-- From any memory with zero counters the reference ends with its arguments unchanged and every counter at zero. -/
theorem reference_frame [Cert.ReferenceIdeal.Facts] (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2, sem_eq_zero_of_no_sems (by decide) r.2⟩) (RouterRef.run_rows m ρ)

end Reference

section Kernel

open Cert.KernelIdeal Cert.KernelIdeal.RouterValue

/-- Where the precondition holds, every argument of the launch is real. -/
theorem realArgs_of_pre [Cert.Pre_finite_args.Facts] (m : (ℓ : Loc nD τ sig) → Buf (Elt Ideal) ℓ)
    (h : Cert.Pre_KernelIdeal_finite_args m) (c : Dev nD) : RealArgs m c := by
  obtain ⟨hx, hg, hw1, hb1, hw2, hb2⟩ := Cert.RouterPre.real_args _ _ _ _ _ _ (h c)
  exact ⟨fun n a => hx (ix2 n a), fun n a => hg (ix2 n a), fun a k => hw1 (ix2 a k), fun k => hb1 (ix1 k),
    fun k e => hw2 (ix2 k e), fun e => hb2 (ix1 e)⟩

end Kernel

/-- Where the precondition holds, the kernel and the reference end with the same weights and the same positions. -/
theorem results_agree [Cert.KernelIdeal.Facts] [Cert.ReferenceIdeal.Facts] [Cert.Pre_finite_args.Facts] :
    Cert.algebraic_KernelIdeal_ReferenceIdeal_pre_finite_args := by
  intro m g m' g' hpre hagree
  have hlog : ∀ c, Cert.ReferenceIdeal.RouterRef.argLogits m' c = Cert.KernelIdeal.RouterValue.argLogits m c := fun c => by
    obtain ⟨h0, h1, h2, h3, h4, h5⟩ := hagree c
    unfold Cert.ReferenceIdeal.RouterRef.argLogits Cert.KernelIdeal.RouterValue.argLogits
    rw [h0, h1, h2, h3, h4, h5]
  refine ⟨fun c => Cert.ReferenceIdeal.RouterRef.weights (Cert.ReferenceIdeal.RouterRef.topVals (Cert.KernelIdeal.RouterValue.argLogits m c)),
    fun c => Cert.ReferenceIdeal.RouterRef.topIdx (Cert.KernelIdeal.RouterValue.argLogits m c), ?_, ?_⟩
  · refine (θ_run _ _ _).mono (fun r h c => ?_) (Cert.KernelIdeal.Value.run_blocks m g)
    have hr := realArgs_of_pre m hpre c
    exact ⟨(h c).1.trans (Cert.KernelIdeal.RouterValue.weights_eq m c hr),
      (h c).2.1.trans (Cert.KernelIdeal.RouterValue.places_eq m c hr), (h c).2.2⟩
  · refine (θ_run _ _ _).mono (fun r h c => ?_) (Cert.ReferenceIdeal.RouterRef.run_rows m' g')
    obtain ⟨hw, hi, hargs⟩ := h c
    rw [hlog c] at hw hi
    exact ⟨hw, hi, hargs⟩

/-- Everything the certificate claims. -/
theorem claim : Cert.Claim :=
  ⟨Cert.Kernel.Gen.facts, Cert.KernelIdeal.Gen.facts, Cert.ReferenceIdeal.Gen.facts, Cert.Pre_finite_args.Gen.facts,
    fun m g _ => Cert.Kernel.Gen.frame m g,
    fun m g _ => Cert.KernelIdeal.Gen.frame m g,
    fun m g _ => Cert.KernelIdeal.Gen.frame m g,
    fun m g _ => @reference_frame Cert.ReferenceIdeal.Gen.facts m g,
    fun m g _ => @reference_frame Cert.ReferenceIdeal.Gen.facts m g,
    trivial,
    @results_agree Cert.KernelIdeal.Gen.facts Cert.ReferenceIdeal.Gen.facts Cert.Pre_finite_args.Gen.facts⟩

end Cert.Proof

end
